-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_x [hPre_finite_x : Cert.Pre_finite_x.Facts] (m : (ℓ : Loc Cert.KernelIdeal.nD Cert.KernelIdeal.τ Cert.KernelIdeal.sig) → Buf (Elt Ideal) ℓ) : Prop :=
  ∀ c : Dev Cert.KernelIdeal.nD,
    (Cert.Pre_finite_x.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_x [hPre_finite_x : Cert.Pre_finite_x.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_x.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_x [hKernelIdeal : Cert.KernelIdeal.Facts] [hPre_finite_x : Cert.Pre_finite_x.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_x m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_x [hReferenceIdeal : Cert.ReferenceIdeal.Facts] [hPre_finite_x : Cert.Pre_finite_x.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_x m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_x [hKernelIdeal : Cert.KernelIdeal.Facts] [hReferenceIdeal : Cert.ReferenceIdeal.Facts] [hPre_finite_x : Cert.Pre_finite_x.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_x m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_x : Cert.Pre_finite_x.Facts),
    quiescent_Kernel (hKernel := hKernel)
    ∧ quiescent_KernelIdeal (hKernelIdeal := hKernelIdeal)
    ∧ quiescent_KernelIdeal_pre_finite_x (hKernelIdeal := hKernelIdeal) (hPre_finite_x := hPre_finite_x)
    ∧ quiescent_ReferenceIdeal (hReferenceIdeal := hReferenceIdeal)
    ∧ quiescent_ReferenceIdeal_pre_finite_x (hReferenceIdeal := hReferenceIdeal) (hPre_finite_x := hPre_finite_x)
    ∧ preserves_Kernel_KernelIdeal
    ∧ algebraic_KernelIdeal_ReferenceIdeal_pre_finite_x (hKernelIdeal := hKernelIdeal) (hReferenceIdeal := hReferenceIdeal) (hPre_finite_x := hPre_finite_x)
-- ==== Pre_finite_x.lean ====
abbrev S4x64x512x512 : Shape := ⟨4, ![4, 64, 512, 512]⟩
abbrev S1x64x1x1 : Shape := ⟨4, ![1, 64, 1, 1]⟩
abbrev S_ : Shape := ⟨0, ![]⟩

class Facts : Prop where
  bcast_S_S4x64x512x512 : S_.BroadcastsInDim S4x64x512x512 (![] : Fin 0 → Fin S4x64x512x512.rank)

variable [Facts]

def fn {F : FTy → Type} [FloatOps F] (main_arg0 : FVec F S4x64x512x512 .f32) (main_arg1 : FVec F S1x64x1x1 .f32) (main_arg2 : FVec F S1x64x1x1 .f32) : IVec S4x64x512x512 1 :=
  let main_v0 : FVec F S4x64x512x512 .f32 := Host.absf main_arg0
  let main_cst : FVec F S_ .f32 := constant S_ .f32 0x7F800000#32
  let main_v1 : FVec F S4x64x512x512 .f32 := broadcastInDim S4x64x512x512 ![] bcast_S_S4x64x512x512 main_cst
  let main_v2 : IVec S4x64x512x512 1 := cmpf .olt main_v0 main_v1
  main_v2
-- ==== Kernel.lean ====
abbrev S4x64x512x512 : Shape := ⟨4, ![4, 64, 512, 512]⟩
abbrev S1x64x1x1 : Shape := ⟨4, ![1, 64, 1, 1]⟩
abbrev S4x8x8x512x512 : Shape := ⟨5, ![4, 8, 8, 512, 512]⟩
abbrev S64 : Shape := ⟨1, ![64]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S_ : Shape := ⟨0, ![]⟩
abbrev S1x1x8x512x512 : Shape := ⟨5, ![1, 1, 8, 512, 512]⟩
abbrev S1x1x1x512x512 : Shape := ⟨5, ![1, 1, 1, 512, 512]⟩
abbrev S15x512 : Shape := ⟨2, ![15, 512]⟩
abbrev S16x512 : Shape := ⟨2, ![16, 512]⟩
abbrev S481x512 : Shape := ⟨2, ![481, 512]⟩
abbrev S512x15 : Shape := ⟨2, ![512, 15]⟩
abbrev S512x16 : Shape := ⟨2, ![512, 16]⟩
abbrev S512x481 : Shape := ⟨2, ![512, 481]⟩
abbrev S1 : Shape := ⟨1, ![1]⟩

abbrev nBuf : Space → Nat
  | .hbm => 38
  | .vmem => 6
  | .smem => 2
  | _ => 0

abbrev bufTy : (tb : Table) → Fin (tcTables nBuf tb) → BufTy
  | .hbm, ⟨0, _⟩ => ⟨S4x64x512x512, .f32⟩
  | .hbm, ⟨1, _⟩ => ⟨S1x64x1x1, .f32⟩
  | .hbm, ⟨2, _⟩ => ⟨S1x64x1x1, .f32⟩
  | .hbm, ⟨3, _⟩ => ⟨S4x8x8x512x512, .f32⟩
  | .hbm, ⟨4, _⟩ => ⟨S64, .f32⟩
  | .hbm, ⟨5, _⟩ => ⟨S64, .f32⟩
  | .hbm, ⟨6, _⟩ => ⟨S512, .i32⟩
  | .hbm, ⟨7, _⟩ => ⟨S512x1, .i32⟩
  | .hbm, ⟨8, _⟩ => ⟨S512, .i32⟩
  | .hbm, ⟨9, _⟩ => ⟨S1x512, .i32⟩
  | .hbm, ⟨10, _⟩ => ⟨S512x512, .i32⟩
  | .hbm, ⟨11, _⟩ => ⟨S512x512, .i32⟩
  | .hbm, ⟨12, _⟩ => ⟨S512x512, .i1⟩
  | .hbm, ⟨13, _⟩ => ⟨S_, .i32⟩
  | .hbm, ⟨14, _⟩ => ⟨S1x512, .i32⟩
  | .hbm, ⟨15, _⟩ => ⟨S1x512, .i32⟩
  | .hbm, ⟨16, _⟩ => ⟨S512x512, .i32⟩
  | .hbm, ⟨17, _⟩ => ⟨S512x512, .i32⟩
  | .hbm, ⟨18, _⟩ => ⟨S512x512, .i1⟩
  | .hbm, ⟨19, _⟩ => ⟨S512x512, .i1⟩
  | .hbm, ⟨20, _⟩ => ⟨S512x512, .bf16⟩
  | .hbm, ⟨21, _⟩ => ⟨S512, .i32⟩
  | .hbm, ⟨22, _⟩ => ⟨S1x512, .i32⟩
  | .hbm, ⟨23, _⟩ => ⟨S512, .i32⟩
  | .hbm, ⟨24, _⟩ => ⟨S512x1, .i32⟩
  | .hbm, ⟨25, _⟩ => ⟨S512x512, .i32⟩
  | .hbm, ⟨26, _⟩ => ⟨S512x512, .i32⟩
  | .hbm, ⟨27, _⟩ => ⟨S512x512, .i1⟩
  | .hbm, ⟨28, _⟩ => ⟨S_, .i32⟩
  | .hbm, ⟨29, _⟩ => ⟨S512x1, .i32⟩
  | .hbm, ⟨30, _⟩ => ⟨S512x1, .i32⟩
  | .hbm, ⟨31, _⟩ => ⟨S512x512, .i32⟩
  | .hbm, ⟨32, _⟩ => ⟨S512x512, .i32⟩
  | .hbm, ⟨33, _⟩ => ⟨S512x512, .i1⟩
  | .hbm, ⟨34, _⟩ => ⟨S512x512, .i1⟩
  | .hbm, ⟨35, _⟩ => ⟨S512x512, .bf16⟩
  | .hbm, ⟨36, _⟩ => ⟨S4x8x8x512x512, .f32⟩
  | .hbm, ⟨37, _⟩ => ⟨S4x64x512x512, .f32⟩
  | .local _ .vmem, ⟨0, _⟩ => ⟨S1x1x8x512x512, .f32⟩
  | .local _ .vmem, ⟨1, _⟩ => ⟨S1x1x8x512x512, .f32⟩
  | .local _ .vmem, ⟨2, _⟩ => ⟨S512x512, .bf16⟩
  | .local _ .vmem, ⟨3, _⟩ => ⟨S512x512, .bf16⟩
  | .local _ .vmem, ⟨4, _⟩ => ⟨S1x1x8x512x512, .f32⟩
  | .local _ .vmem, ⟨5, _⟩ => ⟨S1x1x8x512x512, .f32⟩
  | .local _ .smem, ⟨0, _⟩ => ⟨S64, .f32⟩
  | .local _ .smem, ⟨1, _⟩ => ⟨S64, .f32⟩
  | _, _ => ⟨S4x64x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_c_0 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg3_0 : Ref sig .tc := ⟨.smem, 0, rfl⟩
abbrev cc0_stg4_0 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![4, 8], ![false, false]⟩

def k0_off1 (i : grid0.Coords) (c0_i32 : BitVec 32) : Fin 1 → Nat :=
  let arg1 : BitVec 32 := BitVec.ofNat 32 (i 1).val
  let c8_i32 : BitVec 32 := 8#32
  let v92 : BitVec 32 := Scalar.muli arg1 c8_i32
  let v97 : BitVec 32 := Scalar.addi v92 c0_i32
  let v98 : Index := Scalar.indexCast v97
  ![v98.toNat]
def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x1x8x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .smem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .smem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x8x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S4x64x512x512 : Shape := ⟨4, ![4, 64, 512, 512]⟩
abbrev S1x64x1x1 : Shape := ⟨4, ![1, 64, 1, 1]⟩
abbrev S4x8x8x512x512 : Shape := ⟨5, ![4, 8, 8, 512, 512]⟩
abbrev S_ : Shape := ⟨0, ![]⟩
abbrev S4x8x512x512 : Shape := ⟨4, ![4, 8, 512, 512]⟩
abbrev S4x8x481x481 : Shape := ⟨4, ![4, 8, 481, 481]⟩
abbrev S1x8x481x481 : Shape := ⟨4, ![1, 8, 481, 481]⟩
abbrev S1x0x8x481x481 : Shape := ⟨5, ![1, 0, 8, 481, 481]⟩
abbrev S0x8x481x481 : Shape := ⟨4, ![0, 8, 481, 481]⟩
abbrev S4x1x481x481 : Shape := ⟨4, ![4, 1, 481, 481]⟩
abbrev S4x1x0x481x481 : Shape := ⟨5, ![4, 1, 0, 481, 481]⟩
abbrev S4x0x481x481 : Shape := ⟨4, ![4, 0, 481, 481]⟩
abbrev S4x8x1x481 : Shape := ⟨4, ![4, 8, 1, 481]⟩
abbrev S4x8x1x15x481 : Shape := ⟨5, ![4, 8, 1, 15, 481]⟩
abbrev S4x8x15x481 : Shape := ⟨4, ![4, 8, 15, 481]⟩
abbrev S4x8x1x16x481 : Shape := ⟨5, ![4, 8, 1, 16, 481]⟩
abbrev S4x8x16x481 : Shape := ⟨4, ![4, 8, 16, 481]⟩
abbrev S4x8x512x481 : Shape := ⟨4, ![4, 8, 512, 481]⟩
abbrev S4x8x512x1 : Shape := ⟨4, ![4, 8, 512, 1]⟩
abbrev S4x8x512x1x15 : Shape := ⟨5, ![4, 8, 512, 1, 15]⟩
abbrev S4x8x512x15 : Shape := ⟨4, ![4, 8, 512, 15]⟩
abbrev S4x8x512x1x16 : Shape := ⟨5, ![4, 8, 512, 1, 16]⟩
abbrev S4x8x512x16 : Shape := ⟨4, ![4, 8, 512, 16]⟩
abbrev S4x8x1x512x512 : Shape := ⟨5, ![4, 8, 1, 512, 512]⟩

abbrev nBuf : Space → Nat
  | .hbm => 97
  | .vmem => 0
  | .smem => 0
  | _ => 0

abbrev bufTy : (tb : Table) → Fin (tcTables nBuf tb) → BufTy
  | .hbm, ⟨0, _⟩ => ⟨S4x64x512x512, .f32⟩
  | .hbm, ⟨1, _⟩ => ⟨S1x64x1x1, .f32⟩
  | .hbm, ⟨2, _⟩ => ⟨S1x64x1x1, .f32⟩
  | .hbm, ⟨3, _⟩ => ⟨S4x8x8x512x512, .f32⟩
  | .hbm, ⟨4, _⟩ => ⟨S_, .f32⟩
  | .hbm, ⟨5, _⟩ => ⟨S4x8x512x512, .f32⟩
  | .hbm, ⟨6, _⟩ => ⟨S4x8x8x512x512, .f32⟩
  | .hbm, ⟨7, _⟩ => ⟨S_, .f32⟩
  | .hbm, ⟨8, _⟩ => ⟨S4x8x512x512, .f32⟩
  | .hbm, ⟨9, _⟩ => ⟨S_, .f32⟩
  | .hbm, ⟨10, _⟩ => ⟨S_, .f32⟩
  | .hbm, ⟨11, _⟩ => ⟨S4x8x481x481, .f32⟩
  | .hbm, ⟨12, _⟩ => ⟨S_, .f32⟩
  | .hbm, ⟨13, _⟩ => ⟨S_, .f32⟩
  | .hbm, ⟨14, _⟩ => ⟨S4x8x481x481, .f32⟩
  | .hbm, ⟨15, _⟩ => ⟨S_, .f32⟩
  | .hbm, ⟨16, _⟩ => ⟨S4x8x481x481, .f32⟩
  | .hbm, ⟨17, _⟩ => ⟨S4x8x481x481, .f32⟩
  | .hbm, ⟨18, _⟩ => ⟨S4x8x481x481, .f32⟩
  | .hbm, ⟨19, _⟩ => ⟨S_, .f32⟩
  | .hbm, ⟨20, _⟩ => ⟨S4x8x481x481, .f32⟩
  | .hbm, ⟨21, _⟩ => ⟨S4x8x481x481, .f32⟩
  | .hbm, ⟨22, _⟩ => ⟨S4x8x481x481, .f32⟩
  | .hbm, ⟨23, _⟩ => ⟨S_, .f32⟩
  | .hbm, ⟨24, _⟩ => ⟨S4x8x481x481, .f32⟩
  | .hbm, ⟨25, _⟩ => ⟨S4x8x481x481, .f32⟩
  | .hbm, ⟨26, _⟩ => ⟨S1x8x481x481, .f32⟩
  | .hbm, ⟨27, _⟩ => ⟨S1x0x8x481x481, .f32⟩
  | .hbm, ⟨28, _⟩ => ⟨S0x8x481x481, .f32⟩
  | .hbm, ⟨29, _⟩ => ⟨S1x8x481x481, .f32⟩
  | .hbm, ⟨30, _⟩ => ⟨S1x0x8x481x481, .f32⟩
  | .hbm, ⟨31, _⟩ => ⟨S0x8x481x481, .f32⟩
  | .hbm, ⟨32, _⟩ => ⟨S4x8x481x481, .f32⟩
  | .hbm, ⟨33, _⟩ => ⟨S4x1x481x481, .f32⟩
  | .hbm, ⟨34, _⟩ => ⟨S4x1x0x481x481, .f32⟩
  | .hbm, ⟨35, _⟩ => ⟨S4x0x481x481, .f32⟩
  | .hbm, ⟨36, _⟩ => ⟨S4x1x481x481, .f32⟩
  | .hbm, ⟨37, _⟩ => ⟨S4x1x0x481x481, .f32⟩
  | .hbm, ⟨38, _⟩ => ⟨S4x0x481x481, .f32⟩
  | .hbm, ⟨39, _⟩ => ⟨S4x8x481x481, .f32⟩
  | .hbm, ⟨40, _⟩ => ⟨S4x8x1x481, .f32⟩
  | .hbm, ⟨41, _⟩ => ⟨S4x8x1x15x481, .f32⟩
  | .hbm, ⟨42, _⟩ => ⟨S4x8x15x481, .f32⟩
  | .hbm, ⟨43, _⟩ => ⟨S4x8x1x481, .f32⟩
  | .hbm, ⟨44, _⟩ => ⟨S4x8x1x16x481, .f32⟩
  | .hbm, ⟨45, _⟩ => ⟨S4x8x16x481, .f32⟩
  | .hbm, ⟨46, _⟩ => ⟨S4x8x512x481, .f32⟩
  | .hbm, ⟨47, _⟩ => ⟨S4x8x512x1, .f32⟩
  | .hbm, ⟨48, _⟩ => ⟨S4x8x512x1x15, .f32⟩
  | .hbm, ⟨49, _⟩ => ⟨S4x8x512x15, .f32⟩
  | .hbm, ⟨50, _⟩ => ⟨S4x8x512x1, .f32⟩
  | .hbm, ⟨51, _⟩ => ⟨S4x8x512x1x16, .f32⟩
  | .hbm, ⟨52, _⟩ => ⟨S4x8x512x16, .f32⟩
  | .hbm, ⟨53, _⟩ => ⟨S4x8x512x512, .f32⟩
  | .hbm, ⟨54, _⟩ => ⟨S1x8x481x481, .f32⟩
  | .hbm, ⟨55, _⟩ => ⟨S1x0x8x481x481, .f32⟩
  | .hbm, ⟨56, _⟩ => ⟨S0x8x481x481, .f32⟩
  | .hbm, ⟨57, _⟩ => ⟨S1x8x481x481, .f32⟩
  | .hbm, ⟨58, _⟩ => ⟨S1x0x8x481x481, .f32⟩
  | .hbm, ⟨59, _⟩ => ⟨S0x8x481x481, .f32⟩
  | .hbm, ⟨60, _⟩ => ⟨S4x8x481x481, .f32⟩
  | .hbm, ⟨61, _⟩ => ⟨S4x1x481x481, .f32⟩
  | .hbm, ⟨62, _⟩ => ⟨S4x1x0x481x481, .f32⟩
  | .hbm, ⟨63, _⟩ => ⟨S4x0x481x481, .f32⟩
  | .hbm, ⟨64, _⟩ => ⟨S4x1x481x481, .f32⟩
  | .hbm, ⟨65, _⟩ => ⟨S4x1x0x481x481, .f32⟩
  | .hbm, ⟨66, _⟩ => ⟨S4x0x481x481, .f32⟩
  | .hbm, ⟨67, _⟩ => ⟨S4x8x481x481, .f32⟩
  | .hbm, ⟨68, _⟩ => ⟨S4x8x1x481, .f32⟩
  | .hbm, ⟨69, _⟩ => ⟨S4x8x1x15x481, .f32⟩
  | .hbm, ⟨70, _⟩ => ⟨S4x8x15x481, .f32⟩
  | .hbm, ⟨71, _⟩ => ⟨S4x8x1x481, .f32⟩
  | .hbm, ⟨72, _⟩ => ⟨S4x8x1x16x481, .f32⟩
  | .hbm, ⟨73, _⟩ => ⟨S4x8x16x481, .f32⟩
  | .hbm, ⟨74, _⟩ => ⟨S4x8x512x481, .f32⟩
  | .hbm, ⟨75, _⟩ => ⟨S4x8x512x1, .f32⟩
  | .hbm, ⟨76, _⟩ => ⟨S4x8x512x1x15, .f32⟩
  | .hbm, ⟨77, _⟩ => ⟨S4x8x512x15, .f32⟩
  | .hbm, ⟨78, _⟩ => ⟨S4x8x512x1, .f32⟩
  | .hbm, ⟨79, _⟩ => ⟨S4x8x512x1x16, .f32⟩
  | .hbm, ⟨80, _⟩ => ⟨S4x8x512x16, .f32⟩
  | .hbm, ⟨81, _⟩ => ⟨S4x8x512x512, .f32⟩
  | .hbm, ⟨82, _⟩ => ⟨S4x8x1x512x512, .f32⟩
  | .hbm, ⟨83, _⟩ => ⟨S4x8x8x512x512, .f32⟩
  | .hbm, ⟨84, _⟩ => ⟨S4x8x8x512x512, .f32⟩
  | .hbm, ⟨85, _⟩ => ⟨S4x8x1x512x512, .f32⟩
  | .hbm, ⟨86, _⟩ => ⟨S_, .f32⟩
  | .hbm, ⟨87, _⟩ => ⟨S4x8x1x512x512, .f32⟩
  | .hbm, ⟨88, _⟩ => ⟨S4x8x1x512x512, .f32⟩
  | .hbm, ⟨89, _⟩ => ⟨S4x8x1x512x512, .f32⟩
  | .hbm, ⟨90, _⟩ => ⟨S4x8x8x512x512, .f32⟩
  | .hbm, ⟨91, _⟩ => ⟨S4x8x8x512x512, .f32⟩
  | .hbm, ⟨92, _⟩ => ⟨S4x64x512x512, .f32⟩
  | .hbm, ⟨93, _⟩ => ⟨S4x64x512x512, .f32⟩
  | .hbm, ⟨94, _⟩ => ⟨S4x64x512x512, .f32⟩
  | .hbm, ⟨95, _⟩ => ⟨S4x64x512x512, .f32⟩
  | .hbm, ⟨96, _⟩ => ⟨S4x64x512x512, .f32⟩
  | _, _ => ⟨S4x64x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_cst_3 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_4 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_5 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_cst_6 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩

abbrev nD : Nat := 1
abbrev τ : Topo := Topo.v7x

variable {F : FTy → Type} [FloatOps F]
-- ==== Proof.Spec.lean ====
/-
  The arithmetic that both programs are read against, over extended reals and plain `Fin` indices: which window an
  output pixel uses, the two ways of adding up a window, and the normalisation formula of one pixel.
-/
module

public import Idealize.ShloMosaic.PureOps.Ideal
public import Idealize.ShloMosaic.PureOps.Ideal.Laws
public import Idealize.ShloMosaic.Lib.FinSumWindow

@[expose] public section

noncomputable section

namespace Cert.GroupNorm

open Idealize.ShloMosaic

/-- The window start a pixel coordinate uses: 15 to the left, kept inside the 481 positions a window of 32 has in 512. -/
def edge (y : Fin 512) : Fin 481 := ⟨min (y.val - 15) 480, by omega⟩

/-- A window start as a coordinate of the image. -/
def start (a : Fin 481) : Fin 512 := ⟨a.val, by omega⟩

/-- Position `j` of the window of 32 starting at `a`. -/
def inWin (a : Fin 481) (j : Fin 32) : Fin 512 := ⟨a.val + j.val, by omega⟩

/-- The 0/1 weight of coordinate `k` in the window of 32 that starts at `a`. -/
def band (a k : Fin 512) : EReal := if a.val ≤ k.val ∧ k.val < a.val + 32 then 1 else 0

/-- The sum of the plane `f` over the 32 × 32 window starting at row `a`, column `b`. -/
def winSum (f : Fin 512 → Fin 512 → EReal) (a b : Fin 481) : EReal :=
  ∑ i : Fin 32, ∑ j : Fin 32, f (inWin a i) (inWin b j)

/-- Summing against the 0/1 weights of a window that fits is summing over the window. -/
theorem sum_band_mul (a : Fin 481) (g : Fin 512 → EReal) :
    ∑ k : Fin 512, band (start a) k * g k = ∑ i : Fin 32, g (inWin a i) := by
  rw [FinSumWindow.sum_window (N := 512) (W := 32) a.val (by omega) (fun k => band (start a) k * g k)]
  · refine Finset.sum_congr rfl fun i _ => ?_
    have ho : band (start a) (inWin a i) = 1 := if_pos ⟨Nat.le_add_right _ _, Nat.add_lt_add_left i.isLt _⟩
    show band (start a) (inWin a i) * g (inWin a i) = _
    rw [ho, one_mul]
  · intro k hk
    have hz : band (start a) k = 0 := if_neg hk
    show band (start a) k * g k = 0
    rw [hz, zero_mul]

/-- The two products with 0/1 band matrices, columns first, are the window sum. -/
theorem band_sum_eq_winSum (f : Fin 512 → Fin 512 → EReal) (a b : Fin 481) :
    ∑ k : Fin 512, band (start a) k * ∑ l : Fin 512, f k l * band (start b) l = winSum f a b := by
  rw [sum_band_mul]
  refine Finset.sum_congr rfl fun i _ => ?_
  rw [← sum_band_mul]
  exact Finset.sum_congr rfl fun _ _ => mul_comm _ _

/-- One normalised pixel as the kernel computes it: `x` the pixel, `s` and `q` its window's sum and sum of squares,
    `w` and `b` the channel's weight and bias. -/
def kernelPixel (x s q w b : EReal) : EReal :=
  (x * Ideal.rsqrt ((q - s * (s * Ideal.ofBits .f32 0x39000000#32)) * Ideal.ofBits .f32 0x39000000#32
        + Ideal.ofBits .f32 0x3727C5AC#32)
    - s * Ideal.ofBits .f32 0x39000000#32
      * Ideal.rsqrt ((q - s * (s * Ideal.ofBits .f32 0x39000000#32)) * Ideal.ofBits .f32 0x39000000#32
        + Ideal.ofBits .f32 0x3727C5AC#32)) * w + b

/-- The same pixel as the reference computes it: mean `s / 8192`, variance `(q - s² / 8192) / 8192`, the difference
    divided by the standard deviation. -/
def referencePixel (x s q w b : EReal) : EReal :=
  Ideal.div (x - Ideal.div s (Ideal.ofBits .f32 0x46000000#32))
    (Ideal.sqrt (Ideal.div (q - Ideal.div (s * s) (Ideal.ofBits .f32 0x46000000#32)) (Ideal.ofBits .f32 0x46000000#32)
      + Ideal.ofBits .f32 0x3727C5AC#32)) * w + b

/-- Channel `j` of group `g`, of the 64 channels. -/
def chan (g j : Fin 8) : Fin 64 := ⟨g.val * 8 + j.val, by omega⟩

/-- The sum of the eight channels of group `g` of image `n`, at a pixel, -/
def groupSum (X : Fin 4 → Fin 64 → Fin 512 → Fin 512 → EReal) (n : Fin 4) (g : Fin 8) (k l : Fin 512) : EReal :=
  ∑ j : Fin 8, X n (chan g j) k l

/-- and the sum of their squares. -/
def groupSq (X : Fin 4 → Fin 64 → Fin 512 → Fin 512 → EReal) (n : Fin 4) (g : Fin 8) (k l : Fin 512) : EReal :=
  groupSum (fun n c k l => X n c k l * X n c k l) n g k l

/-- A pixel formula `F` (of the pixel, its window's sum and sum of squares, the weight and the bias) at channel `j` of
    group `g` of image `n`, pixel (`y`, `x`): the window is the edge-clamped one over the group's eight channels. -/
def pixelAt (F : EReal → EReal → EReal → EReal → EReal → EReal) (X : Fin 4 → Fin 64 → Fin 512 → Fin 512 → EReal)
    (W B : Fin 64 → EReal) (n : Fin 4) (g j : Fin 8) (y x : Fin 512) : EReal :=
  F (X n (chan g j) y x) (winSum (groupSum X n g) (edge y) (edge x)) (winSum (groupSq X n g) (edge y) (edge x))
    (W (chan g j)) (B (chan g j))

end Cert.GroupNorm

end
-- ==== Proof.KernelBlock.lean ====
/-
  What one grid point of the kernel leaves in its output block, read at an index: each stored value is
  `kernelPixel` of the loaded pixel, the two double band products over the eight channels, and the channel's
  weight and bias.
-/
module

public import proofs.«01_k».proof.Proof.Gen.KernelIdeal.Frame
public import proofs.«01_k».proof.Proof.Spec
public import Idealize.ShloMosaic.Lib.Pipeline.Value
public import Idealize.ShloMosaic.Lib.Pipeline.ValueKit.Tiles
public import Idealize.ShloMosaic.Lib.Pointwise

@[expose] public section

set_option maxRecDepth 16384

noncomputable section

namespace Cert.KernelIdeal.GroupNorm

open Cert.KernelIdeal Cert.KernelIdeal.Gen Idealize.ShloMosaic Idealize.ShloMosaic.Tactic Cert.GroupNorm

/-- A plane multiplied by a row matrix on the left and a column matrix on the right, read at a pixel. -/
def boxSum (u v : Vec Ideal S512x512 .bf16) (f : Fin 512 → Fin 512 → EReal) (r c : Fin 512) : EReal :=
  ∑ k : Fin 512, v (ix2 r k) * ∑ l : Fin 512, f k l * u (ix2 l c)

/-- The window start of a pixel coordinate, as an image coordinate. -/
abbrev winAt (y : Fin 512) : Fin 512 := start (edge y)

/-- The second double product: the partial sum of squares plus the last two channels' squares. -/
theorem pay14_apply (p : FVec Ideal S512x512 .f32) (g h : Vec Ideal S1x1x1x512x512 .f32)
    (u v : Vec Ideal S512x512 .bf16) (r c : Fin 512) :
    k0_pay14 p g h u v (ix2 r c) = boxSum u v (fun k l => p (ix2 k l) + g (ix5 0 0 0 k l) * g (ix5 0 0 0 k l)
      + h (ix5 0 0 0 k l) * h (ix5 0 0 0 k l)) r c := by
  unfold boxSum
  unfold_payloads
  pointwise [dot_S512x512_S512x512_S512x512_1_0_0_1_n_n]

/-- The piece repeated above the plane is its row 0, -/
theorem pay16_apply (p : FVec Ideal S512x512 .f32) (g h : Vec Ideal S1x1x1x512x512 .f32)
    (u v : Vec Ideal S512x512 .bf16) (r : Fin 15) (c : Fin 512) :
    k0_pay16 p g h u v (ix2 r c) = k0_pay14 p g h u v (ix2 0 c) := by
  unfold k0_pay16
  pointwise

/-- and the piece repeated below it is its row 480. -/
theorem pay17_apply (p : FVec Ideal S512x512 .f32) (g h : Vec Ideal S1x1x1x512x512 .f32)
    (u v : Vec Ideal S512x512 .bf16) (c : Fin 512) :
    k0_pay17 p g h u v (ix2 0 c) = k0_pay14 p g h u v (ix2 480 c) := by
  unfold k0_pay17
  pointwise

/-- The edge padding written as nested cases on the two coordinates reads the plane at the two window starts. -/
theorem edge_cases (M : S512x512.Idx → EReal) (r c : Fin 512) :
    (if hc : c.val < 15 then
        if hr : r.val < 15 then M (ix2 0 0)
        else if hr' : r.val - 15 < 481 then M (ix2 ⟨r.val - 15, by omega⟩ 0) else M (ix2 480 0)
      else if hc' : c.val - 15 < 481 then
        if hr : r.val < 15 then M (ix2 0 ⟨c.val - 15, by omega⟩)
        else if hr' : r.val - 15 < 481 then M (ix2 ⟨r.val - 15, by omega⟩ ⟨c.val - 15, by omega⟩)
        else M (ix2 480 ⟨c.val - 15, by omega⟩)
      else
        if hr : r.val < 15 then M (ix2 0 480)
        else if hr' : r.val - 15 < 481 then M (ix2 ⟨r.val - 15, by omega⟩ 480) else M (ix2 480 480))
      = M (ix2 (winAt r) (winAt c)) := by
  have key : ∀ a b : Fin 512, a.val = min (r.val - 15) 480 → b.val = min (c.val - 15) 480 →
      M (ix2 a b) = M (ix2 (winAt r) (winAt c)) := fun a b ha hb => by
    rw [show a = winAt r from Fin.ext ha, show b = winAt c from Fin.ext hb]
  have z : ((0 : Fin 512) : ℕ) = 0 := rfl
  have z' : ((480 : Fin 512) : ℕ) = 480 := rfl
  split_ifs <;> exact key _ _ (by simp only [z, z']; omega) (by simp only [z, z']; omega)

/-- The first double product, padded: the double product of the summed channels at the pixel's window start. -/
theorem pay15_apply (p : FVec Ideal S512x512 .f32) (g h : Vec Ideal S1x1x1x512x512 .f32)
    (u v : Vec Ideal S512x512 .bf16) (r c : Fin 512) :
    k0_pay15 p g h u v (ix2 r c) = boxSum u v (fun k l => p (ix2 k l) + g (ix5 0 0 0 k l) + h (ix5 0 0 0 k l))
      (winAt r) (winAt c) := by
  unfold k0_pay15
  generalize hM : matmul dot_S512x512_S512x512_S512x512_1_0_0_1_n_n none (k0_pay13 v) _ _ = M
  have hv : M (ix2 (winAt r) (winAt c)) = boxSum u v (fun k l => p (ix2 k l) + g (ix5 0 0 0 k l) + h (ix5 0 0 0 k l))
      (winAt r) (winAt c) := by
    rw [← hM]
    unfold boxSum
    unfold_payloads
    pointwise [dot_S512x512_S512x512_S512x512_1_0_0_1_n_n]
  rw [← hv, ← edge_cases M r c]
  clear hM hv
  pointwise

/-- The reciprocal standard deviation of a pixel, when the two repeated pieces are rows 0 and 480 of the plane. -/
theorem pay19_apply (q s : FVec Ideal S512x512 .f32) (top : FVec Ideal S15x512 .f32) (bot : FVec Ideal S1x512 .f32)
    (ht : ∀ r c, top (ix2 r c) = q (ix2 0 c)) (hb : ∀ c, bot (ix2 0 c) = q (ix2 480 c)) (r c : Fin 512) :
    k0_pay19 q s top bot (ix2 r c) = Ideal.rsqrt ((q (ix2 (winAt r) (winAt c))
      - s (ix2 r c) * (s (ix2 r c) * Ideal.ofBits .f32 0x39000000#32)) * Ideal.ofBits .f32 0x39000000#32
        + Ideal.ofBits .f32 0x3727C5AC#32) := by
  rw [← edge_cases q r c]
  unfold k0_pay19 k0_pay18
  pointwise [ht, hb]

/-- The mean times the reciprocal standard deviation. -/
theorem pay20_apply (q s : FVec Ideal S512x512 .f32) (top : FVec Ideal S15x512 .f32) (bot : FVec Ideal S1x512 .f32)
    (r c : Fin 512) :
    k0_pay20 q s top bot (ix2 r c) = s (ix2 r c) * Ideal.ofBits .f32 0x39000000#32 * k0_pay19 q s top bot (ix2 r c) := by
  unfold k0_pay20 k0_pay18
  pointwise

/-- The sum of the block's eight channels, in the kernel's order, -/
def chanSum (xb : Vec Ideal S1x1x8x512x512 .f32) (k l : Fin 512) : EReal :=
  xb (ix5 0 0 0 k l) + xb (ix5 0 0 1 k l) + xb (ix5 0 0 2 k l) + xb (ix5 0 0 3 k l) + xb (ix5 0 0 4 k l)
    + xb (ix5 0 0 5 k l) + xb (ix5 0 0 6 k l) + xb (ix5 0 0 7 k l)

/-- and of their squares. -/
def chanSqSum (xb : Vec Ideal S1x1x8x512x512 .f32) (k l : Fin 512) : EReal :=
  chanSum (fun i => xb i * xb i) k l

/-- The block a grid point leaves: every pixel of every channel normalised by its window's statistics. -/
def blockOut (i : grid0.Coords) (xb : Vec Ideal S1x1x8x512x512 .f32) (u v : Vec Ideal S512x512 .bf16)
    (w b : Vec Ideal S64 .f32) : Vec Ideal S1x1x8x512x512 .f32 := fun y =>
  kernelPixel (xb y) (boxSum u v (chanSum xb) (winAt (y 3)) (winAt (y 4)))
    (boxSum u v (chanSqSum xb) (winAt (y 3)) (winAt (y 4)))
    (w (ix1 ⟨(i 1).val * 8 + (y 2).val, by have := (i 1).isLt; have := (y 2).isLt; simp at *; omega⟩))
    (b (ix1 ⟨(i 1).val * 8 + (y 2).val, by have := (i 1).isLt; have := (y 2).isLt; simp at *; omega⟩))

/-- The channel number the kernel computes in 32-bit words is `8 * group + j`. -/
theorem chan_word (a : Fin 8) (j : Fin 8) (J : BitVec 32) (hJ : J = BitVec.ofNat 32 j.val) :
    (Scalar.indexCast (Scalar.addi (Scalar.muli (BitVec.ofNat 32 a.val) 8#32) J)).toNat = a.val * 8 + j.val := by
  subst hJ
  revert a j
  decide

/-- One stored channel, for loaded planes `l0 … l7` holding the block's channels and full loads `u`, `v` of the two band
    matrices: the pixel of the plane `l` being stored, normalised. -/
theorem stored_apply (xb : Vec Ideal S1x1x8x512x512 .f32) (l0 l1 l2 l3 l4 l5 l6 l7 l : Vec Ideal S1x1x1x512x512 .f32)
    (u v : Vec Ideal S512x512 .bf16) (w b : EReal)
    (h0 : ∀ k n, l0 (ix5 0 0 0 k n) = xb (ix5 0 0 0 k n)) (h1 : ∀ k n, l1 (ix5 0 0 0 k n) = xb (ix5 0 0 1 k n))
    (h2 : ∀ k n, l2 (ix5 0 0 0 k n) = xb (ix5 0 0 2 k n)) (h3 : ∀ k n, l3 (ix5 0 0 0 k n) = xb (ix5 0 0 3 k n))
    (h4 : ∀ k n, l4 (ix5 0 0 0 k n) = xb (ix5 0 0 4 k n)) (h5 : ∀ k n, l5 (ix5 0 0 0 k n) = xb (ix5 0 0 5 k n))
    (h6 : ∀ k n, l6 (ix5 0 0 0 k n) = xb (ix5 0 0 6 k n)) (h7 : ∀ k n, l7 (ix5 0 0 0 k n) = xb (ix5 0 0 7 k n))
    (r c : Fin 512) :
    k0_pay22 (k0_pay19 (k0_pay14 (k0_pay9 l0 l1 l2 l3 l4 l5) l6 l7 u v) (k0_pay15 (k0_pay8 l0 l1 l2 l3 l4 l5) l6 l7 u v)
        (k0_pay16 (k0_pay9 l0 l1 l2 l3 l4 l5) l6 l7 u v) (k0_pay17 (k0_pay9 l0 l1 l2 l3 l4 l5) l6 l7 u v))
      (k0_pay20 (k0_pay14 (k0_pay9 l0 l1 l2 l3 l4 l5) l6 l7 u v) (k0_pay15 (k0_pay8 l0 l1 l2 l3 l4 l5) l6 l7 u v)
        (k0_pay16 (k0_pay9 l0 l1 l2 l3 l4 l5) l6 l7 u v) (k0_pay17 (k0_pay9 l0 l1 l2 l3 l4 l5) l6 l7 u v))
      l w b (ix5 0 0 0 r c)
      = kernelPixel (l (ix5 0 0 0 r c)) (boxSum u v (chanSum xb) (winAt r) (winAt c))
          (boxSum u v (chanSqSum xb) (winAt r) (winAt c)) w b := by
  have e8 : ∀ k n, k0_pay8 l0 l1 l2 l3 l4 l5 (ix2 k n) + l6 (ix5 0 0 0 k n) + l7 (ix5 0 0 0 k n) = chanSum xb k n := by
    intro k n
    unfold chanSum
    rw [h6, h7, ← h0, ← h1, ← h2, ← h3, ← h4, ← h5]
    unfold_payloads
    pointwise
  have e9 : ∀ k n, k0_pay9 l0 l1 l2 l3 l4 l5 (ix2 k n) + l6 (ix5 0 0 0 k n) * l6 (ix5 0 0 0 k n)
      + l7 (ix5 0 0 0 k n) * l7 (ix5 0 0 0 k n) = chanSqSum xb k n := by
    intro k n
    unfold chanSqSum chanSum
    dsimp only
    rw [h6, h7, ← h0, ← h1, ← h2, ← h3, ← h4, ← h5]
    unfold_payloads
    pointwise
  have eS : ∀ r c, k0_pay15 (k0_pay8 l0 l1 l2 l3 l4 l5) l6 l7 u v (ix2 r c) = boxSum u v (chanSum xb) (winAt r) (winAt c) := by
    intro r c
    rw [pay15_apply]
    exact congrArg (fun f => boxSum u v f (winAt r) (winAt c)) (funext fun k => funext fun n => e8 k n)
  have eQ : ∀ r c, k0_pay14 (k0_pay9 l0 l1 l2 l3 l4 l5) l6 l7 u v (ix2 r c) = boxSum u v (chanSqSum xb) r c := by
    intro r c
    rw [pay14_apply]
    exact congrArg (fun f => boxSum u v f r c) (funext fun k => funext fun n => e9 k n)
  unfold k0_pay22 kernelPixel
  pointwise
  rw [pay20_apply, pay19_apply _ _ _ _ (pay16_apply _ _ _ _ _) (pay17_apply _ _ _ _ _), eS, eQ]

/-- An index of one channel's plane is its two pixel coordinates. -/
theorem chan_index (x : S1x1x1x512x512.Idx) : ∃ r c : Fin 512, x = ix5 0 0 0 r c := by
  refine ⟨x 3, x 4, funext fun a => ?_⟩
  have h0 := (x 0).isLt
  have h1 := (x 1).isLt
  have h2 := (x 2).isLt
  simp at h0 h1 h2
  fin_cases a
  · exact Fin.ext h0
  · exact Fin.ext h1
  · exact Fin.ext h2
  · rfl
  · rfl

/-- A rectangle of one channel, placed in the block. -/
theorem emb_chan (j : Fin 8) (h) (r c : Fin 512) :
    (Rect.unit (s := S1x1x8x512x512) ![0, 0, j.val, 0, 0] ![1, 1, 1, 512, 512] h).emb (ix5 0 0 0 r c) = ix5 0 0 j r c :=
  funext fun a => Fin.ext ((Rect.idx_unit_val _ _ h _ a).trans (by fin_cases a <;> simp))

/-- A load of the whole of a band matrix is the matrix. -/
theorem load_whole (u : Vec Ideal S512x512 .bf16) (h) :
    View.ld (Val := Elt Ideal) u (Rect.unit ![0, 0] ![512, 512] h) = u :=
  funext fun x => View.ld_unit_apply_of u _ _ h x x (by intro a; fin_cases a <;> simp)

/-- The scalar loaded at a channel's word is the channel's element. -/
theorem load_scalar (w : Vec Ideal S64 .f32) (a j : Fin 8) (J : BitVec 32) (hJ : J = BitVec.ofNat 32 j.val) (h) (x) :
    View.ld (Val := Elt Ideal) w
      (Rect.unit ![(Scalar.indexCast (Scalar.addi (Scalar.muli (BitVec.ofNat 32 a.val) 8#32) J)).toNat] ![1] h) x
      = w (ix1 ⟨a.val * 8 + j.val, by omega⟩) :=
  View.ld_unit_apply_of w _ _ h x _ (by
    intro d
    have hx : (x d).val = 0 := by
      have := (x d).isLt
      fin_cases d
      simpa using this
    fin_cases d
    simp only [hx]
    exact (chan_word a j J hJ).symm)

/-- What the body leaves in the output block is `blockOut` of the five input blocks. -/
theorem out_eq_blockOut (c : Dev nD) (i : grid0.Coords) (arg2 : Memref sig .tc .vmem S1x1x8x512x512 .f32) (harg2 : arg2.IsWhole)
    (arg3 : Memref sig .tc .vmem S512x512 .bf16) (harg3 : arg3.IsWhole) (arg4 : Memref sig .tc .vmem S512x512 .bf16) (harg4 : arg4.IsWhole)
    (arg5 : Memref sig .tc .smem S64 .f32) (harg5 : arg5.IsWhole) (arg6 : Memref sig .tc .smem S64 .f32) (harg6 : arg6.IsWhole)
    (arg7 : Memref sig .tc .vmem S1x1x8x512x512 .f32) (harg7 : arg7.IsWhole) (x0 : Vec Ideal S1x1x8x512x512 .f32)
    (x1 x2 : Vec Ideal S512x512 .bf16) (x3 x4 : Vec Ideal S64 .f32) :
    out0_A_5 c i arg2 harg2 arg3 harg3 arg4 harg4 arg5 harg5 arg6 harg6 arg7 harg7 x0 x1 x2 x3 x4 = blockOut i x0 x1 x2 x3 x4 := by
  unfold out0_A_5
  rw [View.read_writes_eq_canon _ _ _ (cover0_A_5 c i arg2 harg2 arg3 harg3 arg4 harg4 arg5 harg5 arg6 harg6 arg7 harg7 x0 x1 x2 x3 x4)]
  funext y
  refine View.canon_apply_of_pieces _ _ ?_ y (cover0_A_5 c i arg2 harg2 arg3 harg3 arg4 harg4 arg5 harg5 arg6 harg6 arg7 harg7 x0 x1 x2 x3 x4 y)
  unfold kernelRun0_A
  dsimp only
  sl_unfold_words
  simp only [View.readAt_eq_ld, harg2.read_unread, harg3.read_unread, harg4.read_unread, harg5.read_unread, harg6.read_unread,
    load_whole]
  -- a loaded channel plane holds the block's channel
  have hl : ∀ (j : Fin 8) (h) (k n : Fin 512), View.ld (Val := Elt Ideal) x0
      (Rect.unit ![0, 0, j.val, 0, 0] ![1, 1, 1, 512, 512] h) (ix5 0 0 0 k n) = x0 (ix5 0 0 j k n) := fun j h k n =>
    congrArg x0 (emb_chan j h k n)
  have h0 := hl 0 inb_S1x1x8x512x512_S1x1x1x512x512_0_0_0_0_0
  have h1 := hl 1 inb_S1x1x8x512x512_S1x1x1x512x512_0_0_1_0_0
  have h2 := hl 2 inb_S1x1x8x512x512_S1x1x1x512x512_0_0_2_0_0
  have h3 := hl 3 inb_S1x1x8x512x512_S1x1x1x512x512_0_0_3_0_0
  have h4 := hl 4 inb_S1x1x8x512x512_S1x1x1x512x512_0_0_4_0_0
  have h5 := hl 5 inb_S1x1x8x512x512_S1x1x1x512x512_0_0_5_0_0
  have h6 := hl 6 inb_S1x1x8x512x512_S1x1x1x512x512_0_0_6_0_0
  have h7 := hl 7 inb_S1x1x8x512x512_S1x1x1x512x512_0_0_7_0_0
  simp only [List.forall_mem_cons, List.not_mem_nil, false_imp_iff, implies_true, and_true]
  -- one stored channel: the plane loaded for it and its two scalars named
  have store := fun (j : Fin 8) (J : BitVec 32) (hJ : J = BitVec.ofNat 32 j.val) (h) (hw) (hb) (xw) (xb') (r c : Fin 512) =>
    (stored_apply x0 _ _ _ _ _ _ _ _ (View.ld (Val := Elt Ideal) x0
        (Rect.unit ![0, 0, j.val, 0, 0] ![1, 1, 1, 512, 512] h)) x1 x2
      (View.ld (Val := Elt Ideal) x3
        (Rect.unit ![(Scalar.indexCast (Scalar.addi (Scalar.muli (BitVec.ofNat 32 (i 1).val) 8#32) J)).toNat] ![1] hw) xw)
      (View.ld (Val := Elt Ideal) x4
        (Rect.unit ![(Scalar.indexCast (Scalar.addi (Scalar.muli (BitVec.ofNat 32 (i 1).val) 8#32) J)).toNat] ![1] hb) xb')
      h0 h1 h2 h3 h4 h5 h6 h7 r c).trans
    ((by rw [load_scalar x3 (i 1) j J hJ hw xw, load_scalar x4 (i 1) j J hJ hb xb', hl j h r c]; rfl :
      _ = blockOut i x0 x1 x2 x3 x4 (ix5 0 0 j r c)).trans (congrArg (blockOut i x0 x1 x2 x3 x4) (emb_chan j h r c)).symm)
  refine ⟨?_, ?_, ?_, ?_, ?_, ?_, ?_, ?_⟩
  · intro x; obtain ⟨r, c, rfl⟩ := chan_index x; exact store 7 7#32 rfl _ _ _ _ _ r c
  · intro x; obtain ⟨r, c, rfl⟩ := chan_index x; exact store 6 6#32 rfl _ _ _ _ _ r c
  · intro x; obtain ⟨r, c, rfl⟩ := chan_index x; exact store 5 5#32 rfl _ _ _ _ _ r c
  · intro x; obtain ⟨r, c, rfl⟩ := chan_index x; exact store 4 4#32 rfl _ _ _ _ _ r c
  · intro x; obtain ⟨r, c, rfl⟩ := chan_index x; exact store 3 3#32 rfl _ _ _ _ _ r c
  · intro x; obtain ⟨r, c, rfl⟩ := chan_index x; exact store 2 2#32 rfl _ _ _ _ _ r c
  · intro x; obtain ⟨r, c, rfl⟩ := chan_index x; exact store 1 1#32 rfl _ _ _ _ _ r c
  · intro x; obtain ⟨r, c, rfl⟩ := chan_index x; exact store 0 0#32 rfl _ _ _ _ _ r c

end Cert.KernelIdeal.GroupNorm

end
-- ==== Proof.KernelEntry.lean ====
/-
  What the arrays that the pallas_call reads hold when it starts, index by index: the image and the two
  per-channel vectors reshaped, and the two 0/1 band matrices.
-/
module

public import proofs.«01_k».proof.Proof.Gen.KernelIdeal.Frame
public import proofs.«01_k».proof.Proof.Spec
public import Idealize.ShloMosaic.Lib.StableHlo.ReadAt
public import Idealize.ShloMosaic.Lib.Pointwise

@[expose] public section

set_option maxRecDepth 16384

noncomputable section

namespace Cert.KernelIdeal.GroupNorm

open Cert.KernelIdeal Cert.KernelIdeal.Gen Idealize.ShloMosaic Idealize.ShloMosaic.TcCoe Idealize.ShloMosaic.Tactic Cert.GroupNorm

/-- A small number as a 32-bit word, read back signed, is itself. -/
theorem toInt_small (n : Nat) (h : n < 1024) : (BitVec.ofNat 32 n).toInt = n := by
  rw [BitVec.toInt_eq_toNat_of_lt (by rw [BitVec.toNat_ofNat]; omega), BitVec.toNat_ofNat]
  omega

/-- The two word comparisons the program makes of a coordinate `k` and a window start `x`, conjoined and converted to a
    float, are the window's 0/1 weight. -/
theorem band_word (k x : Fin 512) :
    FloatOps.uitofp (F := Ideal) FTy.bf16
      (IntOp.andi (IntOp.cmpi CmpIPredicate.sge (BitVec.ofNat 32 k.val) (BitVec.ofNat 32 x.val))
        (IntOp.cmpi CmpIPredicate.slt (BitVec.ofNat 32 k.val) (IntOp.addi (BitVec.ofNat 32 x.val) 32#32))) = band x k := by
  have hk := toInt_small k.val (by omega)
  have hx := toInt_small x.val (by omega)
  have hy := toInt_small (x.val + 32) (by omega)
  rw [BitVec.ofNat_add] at hy
  have one : FloatOps.uitofp (F := Ideal) FTy.bf16 1#1 = 1 := by
    show (((1#1).toNat : ℝ) : EReal) = 1
    simp
  have zero : FloatOps.uitofp (F := Ideal) FTy.bf16 0#1 = 0 := by
    show (((0#1).toNat : ℝ) : EReal) = 0
    simp
  have e1 : IntOp.cmpi CmpIPredicate.sge (BitVec.ofNat 32 k.val) (BitVec.ofNat 32 x.val)
      = BitVec.ofBool (decide (x.val ≤ k.val)) := by
    simp [IntOp.cmpi, BitVec.sle, hk, hx]
  have e2 : IntOp.cmpi CmpIPredicate.slt (BitVec.ofNat 32 k.val) (IntOp.addi (BitVec.ofNat 32 x.val) 32#32)
      = BitVec.ofBool (decide (k.val < x.val + 32)) := by
    simp only [IntOp.cmpi, IntOp.addi, BitVec.slt, hk, hy]
    congr 1
    exact decide_eq_decide.2 (by omega)
  rw [e1, e2]
  unfold band
  by_cases h1 : x.val ≤ k.val <;> by_cases h2 : k.val < x.val + 32 <;> simp [IntOp.andi, h1, h2, one, zero]

variable (m : (ℓ : Loc nD τ sig) → Buf (Elt Ideal) ℓ) (c : Dev nD)

/-- The image, split into groups: channel `j` of group `g` is channel `8 * g + j`; -/
theorem V_image (n : Fin 4) (g : Fin 8) (j : Fin 8) (y x : Fin 512) :
    V m c main_v0 (ix5 n g j y x)
      = m ((c : Thread nD τ).loc main_arg0) (ix4 n ⟨g.val * 8 + j.val, by omega⟩ y x) := by
  unfold V V0 hostOps0
  after_reads_at

/-- the weight as a vector over the channels; -/
theorem V_weight (k : Fin 64) :
    V m c main_v1 (ix1 k) = m ((c : Thread nD τ).loc main_arg1) (ix4 0 k 0 0) := by
  unfold V V0 hostOps0
  after_reads_at

/-- the bias likewise; -/
theorem V_bias (k : Fin 64) :
    V m c main_v2 (ix1 k) = m ((c : Thread nD τ).loc main_arg2) (ix4 0 k 0 0) := by
  unfold V V0 hostOps0
  after_reads_at

/-- the matrix that sums columns: entry (`k`, `x`) is 1 when column `k` lies in the window starting at `x`; -/
theorem V_cols (k x : Fin 512) : V m c main_v16 (ix2 k x) = band x k := by
  unfold V V0 hostOps0
  after_reads_at
  exact band_word _ _

/-- and the one that sums rows, transposed. -/
theorem V_rows (y k : Fin 512) : V m c main_v30 (ix2 y k) = band y k := by
  unfold V V0 hostOps0
  after_reads_at
  exact band_word _ _

end Cert.KernelIdeal.GroupNorm

end
-- ==== Proof.KernelArray.lean ====
/-
  What the kernel's result array holds after the run, index by index, in terms of the argument arrays.
-/
module

public import proofs.«01_k».proof.Proof.KernelBlock
public import proofs.«01_k».proof.Proof.KernelEntry
public import Idealize.ShloMosaic.Lib.Pipeline.ValueKit.Geometry

@[expose] public section

set_option maxRecDepth 16384

noncomputable section

namespace Cert.KernelIdeal.GroupNorm

open Idealize.SL.Sem Cert.KernelIdeal Cert.KernelIdeal.Gen Idealize.ShloMosaic Idealize.ShloMosaic.TcCoe Idealize.ShloMosaic.Tactic Cert.GroupNorm

/-! ## The blocks the grid points read -/

/-- The image window's block at a grid point is image and group of the point; -/
theorem index0 : ∀ t : Fin cfg0.N, win0_0.index t = ![(grid0.coords t 0).val, (grid0.coords t 1).val, 0, 0, 0] :=
  (by decide +kernel : ∀ t : Fin grid0.N, _)

/-- the other inputs' blocks are the whole arrays: the first matrix, -/
theorem index1 : ∀ t : Fin cfg0.N, win0_1.index t = ![0, 0] := (by decide +kernel : ∀ t : Fin grid0.N, _)

/-- the second matrix too, -/
theorem index2 : ∀ t : Fin cfg0.N, win0_2.index t = ![0, 0] := (by decide +kernel : ∀ t : Fin grid0.N, _)

/-- the weight too, -/
theorem index3 : ∀ t : Fin cfg0.N, win0_3.index t = ![0] := (by decide +kernel : ∀ t : Fin grid0.N, _)

/-- and the bias too; -/
theorem index4 : ∀ t : Fin cfg0.N, win0_4.index t = ![0] := (by decide +kernel : ∀ t : Fin grid0.N, _)

/-- the result's block is image and group of the point again. -/
theorem index5 : ∀ t : Fin cfg0.N, win0_5.index t = ![(grid0.coords t 0).val, (grid0.coords t 1).val, 0, 0, 0] :=
  (by decide +kernel : ∀ t : Fin grid0.N, _)

variable (m : (ℓ : Loc nD τ sig) → Buf (Elt Ideal) ℓ) (c : Dev nD)

/-- The image argument by its four coordinates, -/
def img (n : Fin 4) (k : Fin 64) (y x : Fin 512) : EReal := m ((c : Thread nD τ).loc main_arg0) (ix4 n k y x)

/-- the weight argument by its channel, -/
def wgt (k : Fin 64) : EReal := m ((c : Thread nD τ).loc main_arg1) (ix4 0 k 0 0)

/-- and the bias argument by its channel. -/
def bia (k : Fin 64) : EReal := m ((c : Thread nD τ).loc main_arg2) (ix4 0 k 0 0)

/-- A grid point reads its image and group of the image argument, -/
theorem block0 (t : Fin cfg0.N) (j : Fin 8) (y x : Fin 512) :
    iblk m c 0 t (ix5 0 0 j y x) = img m c (grid0.coords t 0) (chan (grid0.coords t 1) j) y x := by
  refine Eq.trans ?_ (V_image m c (grid0.coords t 0) (grid0.coords t 1) j y x)
  blk_simp [iblk]
  congr 1
  blk_ext [index0 t]

/-- the matrix that sums columns, -/
theorem block1 (t : Fin cfg0.N) (k x : Fin 512) : iblk m c 1 t (ix2 k x) = band x k := by
  refine Eq.trans ?_ (V_cols m c k x)
  blk_simp [iblk]
  congr 1
  blk_ext [index1 t]

/-- the matrix that sums rows, -/
theorem block2 (t : Fin cfg0.N) (y k : Fin 512) : iblk m c 2 t (ix2 y k) = band y k := by
  refine Eq.trans ?_ (V_rows m c y k)
  blk_simp [iblk]
  congr 1
  blk_ext [index2 t]

/-- the weight -/
theorem block3 (t : Fin cfg0.N) (k : Fin 64) : iblk m c 3 t (ix1 k) = wgt m c k := by
  refine Eq.trans ?_ (V_weight m c k)
  blk_simp [iblk]
  congr 1
  blk_ext [index3 t]

/-- and the bias. -/
theorem block4 (t : Fin cfg0.N) (k : Fin 64) : iblk m c 4 t (ix1 k) = bia m c k := by
  refine Eq.trans ?_ (V_bias m c k)
  blk_simp [iblk]
  congr 1
  blk_ext [index4 t]

/-! ## The block a grid point writes -/

/-- A double product of the two band matrices at two window starts is the window's sum. -/
theorem boxSum_bands (u v : Vec Ideal S512x512 .bf16) (hu : ∀ k x, u (ix2 k x) = band x k) (hv : ∀ y k, v (ix2 y k) = band y k)
    (f : Fin 512 → Fin 512 → EReal) (y x : Fin 512) :
    boxSum u v f (winAt y) (winAt x) = winSum f (edge y) (edge x) := by
  rw [← band_sum_eq_winSum]
  unfold boxSum
  simp only [hu, hv]

/-- The block a grid point leaves holds the kernel's pixel formula at the point's image and group. -/
theorem block5 (t : Fin cfg0.N) (j : Fin 8) (y x : Fin 512) :
    outsAt0 m c t (ix5 0 0 j y x)
      = pixelAt kernelPixel (img m c) (wgt m c) (bia m c) (grid0.coords t 0) (grid0.coords t 1) j y x := by
  unfold outsAt0
  rw [out_eq_blockOut]
  have hs : chanSum (iblk m c 0 t) = groupSum (img m c) (grid0.coords t 0) (grid0.coords t 1) := by
    funext k l
    unfold chanSum groupSum
    rw [Fin.sum_univ_eight]
    simp only [block0]
  have hq : chanSqSum (iblk m c 0 t) = groupSq (img m c) (grid0.coords t 0) (grid0.coords t 1) := by
    funext k l
    unfold chanSqSum chanSum groupSq groupSum
    rw [Fin.sum_univ_eight]
    simp only [block0]
  show kernelPixel (iblk m c 0 t (ix5 0 0 j y x))
    (boxSum (iblk m c 1 t) (iblk m c 2 t) (chanSum (iblk m c 0 t)) (winAt y) (winAt x))
    (boxSum (iblk m c 1 t) (iblk m c 2 t) (chanSqSum (iblk m c 0 t)) (winAt y) (winAt x))
    (iblk m c 3 t (ix1 (chan (grid0.coords t 1) j))) (iblk m c 4 t (ix1 (chan (grid0.coords t 1) j))) = _
  rw [boxSum_bands _ _ (block1 m c t) (block2 m c t), boxSum_bands _ _ (block1 m c t) (block2 m c t), hs, hq, block0,
    block3, block4]
  rfl

/-! ## The whole array -/

/-- An index of a block is its channel and its two pixel coordinates. -/
theorem block_index (y : S1x1x8x512x512.Idx) : ∃ (j : Fin 8) (r c : Fin 512), y = ix5 0 0 j r c := by
  refine ⟨y 2, y 3, y 4, funext fun a => ?_⟩
  have h0 : (y 0).val < 1 := (y 0).isLt
  have h1 : (y 1).val < 1 := (y 1).isLt
  fin_cases a
  · exact Fin.ext (Nat.lt_one_iff.1 h0)
  · exact Fin.ext (Nat.lt_one_iff.1 h1)
  · rfl
  · rfl
  · rfl

/-- The result of the pallas_call: the kernel's pixel formula at every image, group, channel and pixel. -/
def outArray : Vec Ideal S4x8x8x512x512 .f32 := fun i =>
  pixelAt kernelPixel (img m c) (wgt m c) (bia m c) (i 0) (i 1) (i 2) (i 3) (i 4)

/-- When the grid is done the result array of the pallas_call is `outArray`. -/
theorem array5 : (dats m 0 c).arrAt 5 cfg0.N = outArray m c := by
  refine (dats m 0 c).arrAt_eq_of_covers 5 _ (by decide +kernel) fun t hf y => ?_
  blk_simp
  rw [after0_5]
  obtain ⟨j, r, x, rfl⟩ := block_index y
  have e : (win0_5.blk t).view.emb (ix5 0 0 j r x) = ix5 (grid0.coords t 0) (grid0.coords t 1) j r x := by
    blk_ext [index5 t]
  rw [e]
  exact block5 m c t j r x

/-! ## The run -/

/-- The result of the program: channel `k` is channel `k % 8` of group `k / 8`. -/
def result : Vec Ideal S4x64x512x512 .f32 := fun i =>
  pixelAt kernelPixel (img m c) (wgt m c) (bia m c) (i 0) ⟨(i 1).val / 8, by have : (i 1).val < 64 := (i 1).isLt; omega⟩
    ⟨(i 1).val % 8, by omega⟩ (i 2) (i 3)

/-- After the lines that follow the pallas_call, the result buffer holds `result`. -/
theorem tail_result : Pipeline.afterTail₀ cfgs (dats m) 0 (V0 m) [hostOps1] c main_v32 = result m c := by
  have e : Pipeline.afterTail₀ cfgs (dats m) 0 (V0 m) [hostOps1] c main_v32
      = shapeCast S4x64x512x512 (outArray m c) shapeCasts_S4x8x8x512x512_S4x64x512x512 := by
    have a : Pipeline.withArrays cfg0.spec c (V0 m c) (fun w => (dats m 0 c).arrAt w cfg0.N) (Proc.devRef .tc main_v31)
        = outArray m c :=
      (Pipeline.withArrays_arr spec0 (by decide) c (V0 m c) (fun w => (dats m 0 c).arrAt w cfg0.N) 5).trans (array5 m c)
    rw [← a]
    unfold Pipeline.afterTail₀ hostOps1
    after_reads_simp
    rfl
  rw [e]
  funext i
  rw [eq_ix4 i]
  unfold result outArray
  pointwise

/-- Every run of the idealized kernel ends with the result buffer at `result` and the arguments as launched. -/
theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v32) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).2 main_v32 (Pipeline.mem_restRefs_of main_v32 (by decide) (by decide))).trans
    (tail_result m c), h.2 c⟩) (θ_run_and (run_main m ρ) (unchanged m ρ))

end Cert.KernelIdeal.GroupNorm

end
-- ==== Proof.ReferenceEdge.lean ====
/-
  The two operations of the reference that spread over a neighbourhood: the sum over 32 × 32 windows, and the edge
  padding that repeats the border values, each read at an index.
-/
module

public import proofs.«01_k».proof.Proof.Gen.ReferenceIdeal.Read
public import proofs.«01_k».proof.Proof.Spec
public import Idealize.ShloMosaic.Lib.Pointwise

@[expose] public section

set_option maxRecDepth 16384

noncomputable section

namespace Cert.ReferenceIdeal.GroupNorm

open Cert.ReferenceIdeal Cert.ReferenceIdeal.Gen Cert.ReferenceIdeal.Read Idealize.ShloMosaic Idealize.ShloMosaic.TcCoe
  Idealize.ShloMosaic.Tactic Cert.GroupNorm

/-! ## Window sums -/

/-- The sums of an array of planes over every 32 × 32 window, starting from `z`. -/
def windows (x : Vec Ideal S4x8x512x512 .f32) (z : Vec Ideal S_ .f32) : Vec Ideal S4x8x481x481 .f32 :=
  Host.reduceWindowAdd (F := Ideal) (s := S4x8x512x512) (t := S4x8x481x481) (φ := .f32) ![1, 1, 32, 32] ![1, 1, 1, 1] ![0, 0, 0, 0] ![0, 0, 0, 0] x z
    reduceWindows_S4x8x512x512_S4x8x481x481_w1s1p0_0_w1s1p0_0_w32s1p0_0_w32s1p0_0 h_S_

/-- Started from zero, it is, at each window start, the sum over the window. -/
theorem windows_apply (x : Vec Ideal S4x8x512x512 .f32) (z : Vec Ideal S_ .f32) (hz : ∀ i, z i = 0)
    (n : Fin 4) (g : Fin 8) (a b : Fin 481) :
    windows x z (ix4 n g a b)
      = winSum (fun k l => x (ix4 n g k l)) a b := by
  have key : ∀ k : (⟨4, ![1, 1, 32, 32]⟩ : Shape).Idx, ∀ d : Fin 4,
      (![0, 0, 0, 0] : Fin 4 → Nat) d ≤ ((ix4 n g a b : S4x8x481x481.Idx) d).val * (![1, 1, 1, 1] : Fin 4 → Nat) d + (k d).val
      ∧ ((ix4 n g a b : S4x8x481x481.Idx) d).val * (![1, 1, 1, 1] : Fin 4 → Nat) d + (k d).val - (![0, 0, 0, 0] : Fin 4 → Nat) d
        < S4x8x512x512.size d := by
    intro k
    have h0 : (k 0).val < 1 := (k 0).isLt
    have h1 : (k 1).val < 1 := (k 1).isLt
    have h2 : (k 2).val < 32 := (k 2).isLt
    have h3 : (k 3).val < 32 := (k 3).isLt
    intro d
    match d with
    | ⟨0, _⟩ => show 0 ≤ n.val * 1 + (k 0).val ∧ n.val * 1 + (k 0).val - 0 < 4; omega
    | ⟨1, _⟩ => show 0 ≤ g.val * 1 + (k 1).val ∧ g.val * 1 + (k 1).val - 0 < 8; omega
    | ⟨2, _⟩ => show 0 ≤ a.val * 1 + (k 2).val ∧ a.val * 1 + (k 2).val - 0 < 512; omega
    | ⟨3, _⟩ => show 0 ≤ b.val * 1 + (k 3).val ∧ b.val * 1 + (k 3).val - 0 < 512; omega
  have e : windows x z (ix4 n g a b)
      = ∑ k : (⟨4, ![1, 1, 32, 32]⟩ : Shape).Idx, x (fun d => ⟨_, (key k d).2⟩) := by
    rw [sum_idx_eq_foldl, ← hz (Shape.Idx.first h_S_)]
    show List.foldl _ _ _ = _
    congr 1
    funext r i
    exact congrArg (r + ·) (dif_pos (key _))
  rw [e, sum_idx4, Fin.sum_univ_one, Fin.sum_univ_one]
  refine Finset.sum_congr rfl fun i _ => Finset.sum_congr rfl fun j _ => congrArg x (funext fun d => Fin.ext ?_)
  match d with
  | ⟨0, _⟩ => show n.val * 1 + 0 - 0 = n.val; omega
  | ⟨1, _⟩ => show g.val * 1 + 0 - 0 = g.val; omega
  | ⟨2, _⟩ => show a.val * 1 + i.val - 0 = a.val + i.val; omega
  | ⟨3, _⟩ => show b.val * 1 + j.val - 0 = b.val + j.val; omega

/-! ## Edge padding -/

/-- The padding along the first axis, which adds nothing: the array between two empty pieces, -/
def padN (A : Vec Ideal S4x8x481x481 .f32) : Vec Ideal S4x8x481x481 .f32 :=
  concatenate S4x8x481x481 0
    [⟨S0x8x481x481, shapeCast _ (broadcastInDim S1x0x8x481x481 ![0, 2, 3, 4] bcast_S1x8x481x481_S1x0x8x481x481_0_2_3_4
        (extractStridedSlice S1x8x481x481 ![0, 0, 0, 0] A slices_S4x8x481x481_S1x8x481x481_0_0_0_0))
        shapeCasts_S1x0x8x481x481_S0x8x481x481⟩,
      ⟨S4x8x481x481, A⟩,
      ⟨S0x8x481x481, shapeCast _ (broadcastInDim S1x0x8x481x481 ![0, 2, 3, 4] bcast_S1x8x481x481_S1x0x8x481x481_0_2_3_4
        (extractStridedSlice S1x8x481x481 ![3, 0, 0, 0] A slices_S4x8x481x481_S1x8x481x481_3_0_0_0))
        shapeCasts_S1x0x8x481x481_S0x8x481x481⟩]
    concatenates_S0x8x481x481_S4x8x481x481_S0x8x481x481_S4x8x481x481_d0

/-- and along the second axis, which adds nothing either. -/
def padG (A : Vec Ideal S4x8x481x481 .f32) : Vec Ideal S4x8x481x481 .f32 :=
  concatenate S4x8x481x481 1
    [⟨S4x0x481x481, shapeCast _ (broadcastInDim S4x1x0x481x481 ![0, 1, 3, 4] bcast_S4x1x481x481_S4x1x0x481x481_0_1_3_4
        (extractStridedSlice S4x1x481x481 ![0, 0, 0, 0] A slices_S4x8x481x481_S4x1x481x481_0_0_0_0))
        shapeCasts_S4x1x0x481x481_S4x0x481x481⟩,
      ⟨S4x8x481x481, A⟩,
      ⟨S4x0x481x481, shapeCast _ (broadcastInDim S4x1x0x481x481 ![0, 1, 3, 4] bcast_S4x1x481x481_S4x1x0x481x481_0_1_3_4
        (extractStridedSlice S4x1x481x481 ![0, 7, 0, 0] A slices_S4x8x481x481_S4x1x481x481_0_7_0_0))
        shapeCasts_S4x1x0x481x481_S4x0x481x481⟩]
    concatenates_S4x0x481x481_S4x8x481x481_S4x0x481x481_S4x8x481x481_d1

/-- The padding along the rows: 15 copies of the first row above and 16 copies of the last below, -/
def padY (A : Vec Ideal S4x8x481x481 .f32) : Vec Ideal S4x8x512x481 .f32 :=
  concatenate S4x8x512x481 2
    [⟨S4x8x15x481, shapeCast _ (broadcastInDim S4x8x1x15x481 ![0, 1, 2, 4] bcast_S4x8x1x481_S4x8x1x15x481_0_1_2_4
        (extractStridedSlice S4x8x1x481 ![0, 0, 0, 0] A slices_S4x8x481x481_S4x8x1x481_0_0_0_0))
        shapeCasts_S4x8x1x15x481_S4x8x15x481⟩,
      ⟨S4x8x481x481, A⟩,
      ⟨S4x8x16x481, shapeCast _ (broadcastInDim S4x8x1x16x481 ![0, 1, 2, 4] bcast_S4x8x1x481_S4x8x1x16x481_0_1_2_4
        (extractStridedSlice S4x8x1x481 ![0, 0, 480, 0] A slices_S4x8x481x481_S4x8x1x481_0_0_480_0))
        shapeCasts_S4x8x1x16x481_S4x8x16x481⟩]
    concatenates_S4x8x15x481_S4x8x481x481_S4x8x16x481_S4x8x512x481_d2

/-- and along the columns in the same way. -/
def padX (A : Vec Ideal S4x8x512x481 .f32) : Vec Ideal S4x8x512x512 .f32 :=
  concatenate S4x8x512x512 3
    [⟨S4x8x512x15, shapeCast _ (broadcastInDim S4x8x512x1x15 ![0, 1, 2, 3] bcast_S4x8x512x1_S4x8x512x1x15_0_1_2_3
        (extractStridedSlice S4x8x512x1 ![0, 0, 0, 0] A slices_S4x8x512x481_S4x8x512x1_0_0_0_0))
        shapeCasts_S4x8x512x1x15_S4x8x512x15⟩,
      ⟨S4x8x512x481, A⟩,
      ⟨S4x8x512x16, shapeCast _ (broadcastInDim S4x8x512x1x16 ![0, 1, 2, 3] bcast_S4x8x512x1_S4x8x512x1x16_0_1_2_3
        (extractStridedSlice S4x8x512x1 ![0, 0, 0, 480] A slices_S4x8x512x481_S4x8x512x1_0_0_0_480))
        shapeCasts_S4x8x512x1x16_S4x8x512x16⟩]
    concatenates_S4x8x512x15_S4x8x512x481_S4x8x512x16_S4x8x512x512_d3

/-- Between empty pieces the array is unchanged, along the first axis -/
theorem padN_apply (A : Vec Ideal S4x8x481x481 .f32) (n : Fin 4) (g : Fin 8) (a b : Fin 481) :
    padN A (ix4 n g a b) = A (ix4 n g a b) := by
  unfold padN
  pointwise
  exact dif_neg (Nat.not_lt_zero _)

/-- and along the second. -/
theorem padG_apply (A : Vec Ideal S4x8x481x481 .f32) (n : Fin 4) (g : Fin 8) (a b : Fin 481) :
    padG A (ix4 n g a b) = A (ix4 n g a b) := by
  unfold padG
  pointwise
  exact dif_neg (Nat.not_lt_zero _)

/-- Padded along the rows, row `y` is the array's row `edge y`, -/
theorem padY_apply (A : Vec Ideal S4x8x481x481 .f32) (n : Fin 4) (g : Fin 8) (y : Fin 512) (b : Fin 481) :
    padY A (ix4 n g y b) = A (ix4 n g (edge y) b) := by
  unfold padY
  pointwise
  by_cases h1 : y.val < 15
  · rw [dif_pos h1]
    exact congrArg (fun r => A (ix4 n g r b)) (Fin.ext (show 0 = min (y.val - 15) 480 by omega))
  rw [dif_neg h1]
  by_cases h2 : y.val - 15 < 481
  · rw [dif_pos h2]
    exact congrArg (fun r => A (ix4 n g r b)) (Fin.ext (show y.val - 15 = min (y.val - 15) 480 by omega))
  rw [dif_neg h2]
  exact congrArg (fun r => A (ix4 n g r b)) (Fin.ext (show 480 = min (y.val - 15) 480 by omega))

/-- and along the columns, column `x` is the array's column `edge x`. -/
theorem padX_apply (A : Vec Ideal S4x8x512x481 .f32) (n : Fin 4) (g : Fin 8) (y x : Fin 512) :
    padX A (ix4 n g y x) = A (ix4 n g y (edge x)) := by
  unfold padX
  pointwise
  by_cases h1 : x.val < 15
  · rw [dif_pos h1]
    exact congrArg (fun r => A (ix4 n g y r)) (Fin.ext (show 0 = min (x.val - 15) 480 by omega))
  rw [dif_neg h1]
  by_cases h2 : x.val - 15 < 481
  · rw [dif_pos h2]
    exact congrArg (fun r => A (ix4 n g y r)) (Fin.ext (show x.val - 15 = min (x.val - 15) 480 by omega))
  rw [dif_neg h2]
  exact congrArg (fun r => A (ix4 n g y r)) (Fin.ext (show 480 = min (x.val - 15) 480 by omega))

/-- All four paddings: the value at a pixel is the array's at the pixel's window. -/
theorem pad_apply (A : Vec Ideal S4x8x481x481 .f32) (n : Fin 4) (g : Fin 8) (y x : Fin 512) :
    padX (padY (padG (padN A))) (ix4 n g y x) = A (ix4 n g (edge y) (edge x)) := by
  rw [padX_apply, padY_apply, padG_apply, padN_apply]

end Cert.ReferenceIdeal.GroupNorm

end
-- ==== Proof.Reference.lean ====
/-
  What the reference computes: its result at every index, and its run.
-/
module

public import proofs.«01_k».proof.Proof.ReferenceEdge
public import Idealize.ShloMosaic.Lib.Claim

@[expose] public section

set_option maxRecDepth 16384

noncomputable section

namespace Cert.ReferenceIdeal.GroupNorm

open Cert.ReferenceIdeal Cert.ReferenceIdeal.Gen Cert.ReferenceIdeal.Read Idealize.ShloMosaic Idealize.ShloMosaic.TcCoe
  Idealize.ShloMosaic.Tactic Idealize.SL.Sem Cert.GroupNorm

/-- An image array by its coordinates, -/
def img (X : Vec Ideal S4x64x512x512 .f32) (n : Fin 4) (k : Fin 64) (y x : Fin 512) : EReal := X (ix4 n k y x)

/-- and a per-channel array. -/
def vec (W : Vec Ideal S1x64x1x1 .f32) (k : Fin 64) : EReal := W (ix4 0 k 0 0)

variable (X : Vec Ideal S4x64x512x512 .f32) (W B : Vec Ideal S1x64x1x1 .f32)

/-- The image in groups: channel `j` of group `g`. -/
theorem grouped (n : Fin 4) (g j : Fin 8) (y x : Fin 512) :
    val_main_v0 (F := Ideal) X (ix5 n g j y x) = img X n (chan g j) y x := by
  unfold val_main_v0 img
  pointwise
  rfl

/-- The sum over a group's channels, -/
theorem sums (n : Fin 4) (g : Fin 8) (y x : Fin 512) :
    val_main_v1 (F := Ideal) X (ix4 n g y x) = groupSum (img X) n g y x := by
  rw [val_main_v1_apply]
  show Ideal.ofBits .f32 0x00000000#32 + ∑ k : Fin 8, val_main_v0 (F := Ideal) X (idx_main_v1 (ix4 n g y x) k) = _
  rw [Ideal.ofBits_zero_f32, zero_add]
  unfold groupSum
  exact Finset.sum_congr rfl fun k _ => grouped X n g k y x

/-- and the sum of their squares. -/
theorem squares (n : Fin 4) (g : Fin 8) (y x : Fin 512) :
    val_main_v3 (F := Ideal) X (ix4 n g y x) = groupSq (img X) n g y x := by
  rw [val_main_v3_apply]
  show Ideal.ofBits .f32 0x00000000#32 + ∑ k : Fin 8, val_main_v2 (F := Ideal) X (idx_main_v3 (ix4 n g y x) k) = _
  rw [Ideal.ofBits_zero_f32, zero_add]
  unfold groupSq groupSum
  refine Finset.sum_congr rfl fun k _ => ?_
  show val_main_v0 (F := Ideal) X (ix5 n g k y x) * val_main_v0 (F := Ideal) X (ix5 n g k y x) = _
  rw [grouped]

/-- The window sums of the sum -/
theorem sums_window (n : Fin 4) (g : Fin 8) (a b : Fin 481) :
    val_main_v5 (F := Ideal) X (ix4 n g a b) = winSum (groupSum (img X) n g) a b := by
  refine (windows_apply (val_main_v1 (F := Ideal) X) (val_main_v4 (F := Ideal)) (fun _ => Ideal.ofBits_zero_f32) n g a b).trans ?_
  exact congrArg (fun f => winSum f a b) (funext fun k => funext fun l => sums X n g k l)

/-- and of the sum of squares. -/
theorem squares_window (n : Fin 4) (g : Fin 8) (a b : Fin 481) :
    val_main_v7 (F := Ideal) X (ix4 n g a b) = winSum (groupSq (img X) n g) a b := by
  refine (windows_apply (val_main_v3 (F := Ideal) X) (val_main_v6 (F := Ideal)) (fun _ => Ideal.ofBits_zero_f32) n g a b).trans ?_
  exact congrArg (fun f => winSum f a b) (funext fun k => funext fun l => squares X n g k l)

/-- The mean at a pixel: the padded mean at the pixel's window, -/
theorem mean (n : Fin 4) (g : Fin 8) (y x : Fin 512) :
    val_main_v43 (F := Ideal) X (ix4 n g y x)
      = Ideal.div (winSum (groupSum (img X) n g) (edge y) (edge x)) (Ideal.ofBits .f32 0x46000000#32) := by
  refine (pad_apply (val_main_v9 (F := Ideal) X) n g y x).trans ?_
  show Ideal.div (val_main_v5 (F := Ideal) X (ix4 n g (edge y) (edge x))) _ = _
  rw [sums_window]
  rfl

/-- and the variance likewise. -/
theorem variance (n : Fin 4) (g : Fin 8) (y x : Fin 512) :
    val_main_v71 (F := Ideal) X (ix4 n g y x)
      = Ideal.div (winSum (groupSq (img X) n g) (edge y) (edge x)
          - Ideal.div (winSum (groupSum (img X) n g) (edge y) (edge x) * winSum (groupSum (img X) n g) (edge y) (edge x))
            (Ideal.ofBits .f32 0x46000000#32)) (Ideal.ofBits .f32 0x46000000#32) := by
  refine (pad_apply (val_main_v15 (F := Ideal) X) n g y x).trans ?_
  show Ideal.div (val_main_v7 (F := Ideal) X (ix4 n g (edge y) (edge x))
    - Ideal.div (val_main_v5 (F := Ideal) X (ix4 n g (edge y) (edge x)) * val_main_v5 (F := Ideal) X (ix4 n g (edge y) (edge x)))
      _) _ = _
  rw [sums_window, squares_window]
  rfl

/-- A group's pixel read through the two broadcasts that repeat it over the group's channels. -/
theorem spread (n : Fin 4) (g j : Fin 8) (y x : Fin 512) :
    idx_main_v72 (idx_main_v73 (ix5 n g j y x)) = ix4 n g y x := by
  funext a
  match a with
  | ⟨0, _⟩ => rfl
  | ⟨1, _⟩ => rfl
  | ⟨2, _⟩ => rfl
  | ⟨3, _⟩ => rfl

/-- The normalised image in groups, before the weight and the bias. -/
theorem normalised (n : Fin 4) (g j : Fin 8) (y x : Fin 512) :
    val_main_v80 (F := Ideal) X (ix5 n g j y x)
      = Ideal.div (val_main_v0 (F := Ideal) X (ix5 n g j y x) - val_main_v43 (F := Ideal) X (ix4 n g y x))
        (Ideal.sqrt (val_main_v71 (F := Ideal) X (ix4 n g y x) + Ideal.ofBits .f32 0x3727C5AC#32)) := by
  rw [val_main_v80_apply, val_main_v74_apply, val_main_v73_apply, val_main_v72_apply, val_main_v79_apply, val_main_v78_apply,
    val_main_v77_apply, val_main_v75_apply, val_main_v76_apply]
  rw [← spread n g j y x]
  generalize val_main_v0 (F := Ideal) X = p
  generalize val_main_v43 (F := Ideal) X = q
  generalize val_main_v71 (F := Ideal) X = r
  rfl

/-- The normalised image by channel: channel `k` is channel `k % 8` of group `k / 8`. -/
theorem ungrouped (n : Fin 4) (k : Fin 64) (y x : Fin 512) :
    val_main_v81 (F := Ideal) X (ix4 n k y x)
      = val_main_v80 (F := Ideal) X (ix5 n ⟨k.val / 8, by omega⟩ ⟨k.val % 8, by omega⟩ y x) := by
  unfold val_main_v81
  generalize val_main_v80 (F := Ideal) X = A
  pointwise

/-- The reference's result at an index. -/
theorem result_apply (n : Fin 4) (k : Fin 64) (y x : Fin 512) :
    val_main_v85 (F := Ideal) X W B (ix4 n k y x)
      = pixelAt referencePixel (img X) (vec W) (vec B) n ⟨k.val / 8, by omega⟩ ⟨k.val % 8, by omega⟩ y x := by
  have hk : chan ⟨k.val / 8, by omega⟩ ⟨k.val % 8, by omega⟩ = k := Fin.ext (show k.val / 8 * 8 + k.val % 8 = k.val by omega)
  have ew : val_main_v82 (F := Ideal) W (ix4 n k y x) = vec W k := by
    unfold val_main_v82 vec
    pointwise
  have eb : val_main_v84 (F := Ideal) B (ix4 n k y x) = vec B k := by
    unfold val_main_v84 vec
    pointwise
  rw [val_main_v85_apply, val_main_v83_apply, ew, eb, ungrouped, normalised, mean, variance, grouped]
  unfold pixelAt referencePixel
  rw [hk]
  rfl

/-- Every run of the reference ends with the result buffer at this function of the arguments, which are unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v85)
        = val_main_v85 (F := Ideal) (m ((c.tc : Thread nD τ).loc main_arg0)) (m ((c.tc : Thread nD τ).loc main_arg1))
          (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (val_main_v85_eq (StableHlo.launchContents m c)), (h c).2⟩)
    (Value.run (F := Ideal) m ρ)

end Cert.ReferenceIdeal.GroupNorm

end
-- ==== Proof.Equation.lean ====
/-
  The kernel's pixel formula and the reference's agree on a finite image: the window's sum and sum of squares are then
  real numbers, the variance is not negative, and dividing by a positive standard deviation is multiplying by its
  reciprocal.
-/
module

public import proofs.«01_k».proof.Proof.Spec
public import Mathlib.Algebra.Order.BigOperators.Ring.Finset

@[expose] public section

noncomputable section

namespace Cert.GroupNorm

open Idealize.ShloMosaic

/-! ## The three constants -/

/-- One over the number of elements of a window's eight channels, -/
theorem bits_inv : Ideal.ofBits .f32 0x39000000#32 = ((1 / 8192 : ℝ) : EReal) := by
  simp [Ideal.ofBits, Ideal.ieee, -EReal.coe_mul]; norm_num

/-- that number, -/
theorem bits_count : Ideal.ofBits .f32 0x46000000#32 = ((8192 : ℝ) : EReal) := by
  simp [Ideal.ofBits, Ideal.ieee, -EReal.coe_mul]; norm_num

/-- and the epsilon added to the variance, about `1e-5`. -/
theorem bits_eps : Ideal.ofBits .f32 0x3727C5AC#32 = ((10995116 / 2 ^ 40 : ℝ) : EReal) := by
  simp [Ideal.ofBits, Ideal.ieee, -EReal.coe_mul]; norm_num

/-! ## One pixel -/

/-- The two formulas agree at a real pixel, real sum and real sum of squares whose variance is not negative. -/
theorem pixel_eq (x s q : ℝ) (w b : EReal) (h : s * s ≤ 8192 * q) :
    kernelPixel x s q w b = referencePixel x s q w b := by
  have hv : 0 < (q - s * (s * (1 / 8192))) * (1 / 8192) + 10995116 / 2 ^ 40 := by
    have : 0 ≤ (q - s * (s * (1 / 8192))) * (1 / 8192) := by nlinarith
    positivity
  have he : (q - s * s / 8192) / 8192 + 10995116 / 2 ^ 40 = (q - s * (s * (1 / 8192))) * (1 / 8192) + 10995116 / 2 ^ 40 := by
    ring
  unfold kernelPixel referencePixel
  rw [bits_inv, bits_count, bits_eps]
  generalize hV : (q - s * (s * (1 / 8192))) * (1 / 8192) + 10995116 / 2 ^ 40 = v at hv he
  have e1 : ((q : EReal) - s * (s * ((1 / 8192 : ℝ) : EReal))) * ((1 / 8192 : ℝ) : EReal) + ((10995116 / 2 ^ 40 : ℝ) : EReal)
      = (v : EReal) := by
    rw [← hV]; push_cast; rfl
  have e2 : Ideal.div ((q : EReal) - Ideal.div (s * s : EReal) ((8192 : ℝ) : EReal)) ((8192 : ℝ) : EReal)
      + ((10995116 / 2 ^ 40 : ℝ) : EReal) = (v : EReal) := by
    rw [← he, Ideal.div_coe (by norm_num), Ideal.div_coe (by norm_num), div_eq_mul_one_div (s * s), div_eq_mul_one_div (_ - _)]
    push_cast
    rfl
  rw [e1, e2]
  have hr : Real.sqrt v ≠ 0 := (Real.sqrt_pos.2 hv).ne'
  rw [Ideal.rsqrt_coe, Ideal.sqrt_coe, if_neg hv.le.not_gt, if_neg hv.ne', if_neg hv.le.not_gt, Ideal.div_coe hr,
    Ideal.div_coe (by norm_num)]
  congr 2
  simp only [← EReal.coe_mul, ← EReal.coe_sub]
  rw [EReal.coe_eq_coe_iff]
  ring

/-! ## Sums of real planes -/

/-- They differ at a zero pixel whose window holds an infinite element, weight 1 and bias 0: the image must be finite. -/
theorem pixel_ne : kernelPixel 0 ⊤ ⊤ 1 0 = ⊤ ∧ referencePixel 0 ⊤ ⊤ 1 0 = 0 := by
  have hi : (0 : ℝ) < 1 / 8192 := by norm_num
  have hn : (0 : ℝ) < 8192 := by norm_num
  have dn : ∀ x, Ideal.div x ((8192 : ℝ) : EReal) = x * ((1 / 8192 : ℝ) : EReal) := Ideal.div_coe hn.ne'
  have sub : (⊤ : EReal) - ⊤ = ⊥ := rfl
  unfold kernelPixel referencePixel
  rw [bits_inv, bits_count, bits_eps, dn, dn, dn, EReal.top_mul_top, EReal.top_mul_coe_of_pos hi, EReal.top_mul_top, sub,
    EReal.bot_mul_coe_of_pos hi, EReal.bot_add]
  have hr : Ideal.rsqrt ⊥ = ⊥ := rfl
  have hs : Ideal.sqrt ⊥ = ⊥ := rfl
  rw [hr, hs]
  constructor
  · simp
  · simp [Ideal.div]

/-- The window sum of a plane of real numbers is a real number. -/
theorem winSum_coe (f : Fin 512 → Fin 512 → ℝ) (a b : Fin 481) :
    winSum (fun k l => (f k l : EReal)) a b = ((∑ i : Fin 32, ∑ j : Fin 32, f (inWin a i) (inWin b j) : ℝ) : EReal) := by
  unfold winSum
  push_cast
  rfl

/-- The square of a sum over 32 × 32 × 8 elements is at most 8192 times the sum of the squares. -/
theorem sq_sum_le (f : Fin 32 → Fin 32 → Fin 8 → ℝ) :
    (∑ i, ∑ j, ∑ k, f i j k) * (∑ i, ∑ j, ∑ k, f i j k) ≤ 8192 * ∑ i, ∑ j, ∑ k, f i j k * f i j k := by
  have h := Finset.sum_mul_sq_le_sq_mul_sq (Finset.univ : Finset (Fin 32 × Fin 32 × Fin 8)) (fun _ => (1 : ℝ))
    (fun p => f p.1 p.2.1 p.2.2)
  simp only [Fintype.sum_prod_type, one_mul, one_pow, Finset.sum_const, Finset.card_univ, Fintype.card_fin, sq] at h
  norm_num at h
  exact h

/-- On a finite image the kernel's and the reference's values agree at every pixel, for any weight and bias. -/
theorem pixelAt_eq (X : Fin 4 → Fin 64 → Fin 512 → Fin 512 → EReal) (hX : ∀ n k y x, X n k y x ≠ ⊤ ∧ X n k y x ≠ ⊥)
    (W B : Fin 64 → EReal) (n : Fin 4) (g j : Fin 8) (y x : Fin 512) :
    pixelAt kernelPixel X W B n g j y x = pixelAt referencePixel X W B n g j y x := by
  obtain ⟨R, rfl⟩ : ∃ R : Fin 4 → Fin 64 → Fin 512 → Fin 512 → ℝ, X = fun n k y x => (R n k y x : EReal) :=
    ⟨fun n k y x => (X n k y x).toReal, by
      funext n k y x; exact (EReal.coe_toReal (hX n k y x).1 (hX n k y x).2).symm⟩
  have hs : groupSum (fun n k y x => (R n k y x : EReal)) n g
      = fun k l => ((∑ j : Fin 8, R n (chan g j) k l : ℝ) : EReal) := by
    funext k l; unfold groupSum; push_cast; rfl
  have hq : groupSq (fun n k y x => (R n k y x : EReal)) n g
      = fun k l => ((∑ j : Fin 8, R n (chan g j) k l * R n (chan g j) k l : ℝ) : EReal) := by
    funext k l; unfold groupSq groupSum; push_cast; rfl
  unfold pixelAt
  rw [hs, hq, winSum_coe, winSum_coe]
  exact pixel_eq _ _ _ _ _ (sq_sum_le _)

end Cert.GroupNorm

end
-- ==== Proof.Finite.lean ====
/-
  What the precondition says of the image: no element is an infinity.
-/
module

public import proofs.«01_k».proof.Pre_finite_x
public import Idealize.ShloMosaic.PureOps.Ideal.Laws

@[expose] public section

noncomputable section

namespace Cert.Pre_finite_x

open Idealize.ShloMosaic

/-- The one shape relation the predicate states. -/
instance facts : Facts where
  bcast_S_S4x64x512x512 := by decide

/-- The word of positive infinity. -/
theorem bits_inf : Ideal.ofBits .f32 0x7F800000#32 = ⊤ := by
  simp [Ideal.ofBits, Ideal.ieee]

/-- An image that passes the predicate is finite everywhere. -/
theorem finite {x : FVec Ideal S4x64x512x512 .f32} {w b : FVec Ideal S1x64x1x1 .f32}
    (h : fn (F := Ideal) x w b = fun _ => 1#1) (i : S4x64x512x512.Idx) : x i ≠ ⊤ ∧ x i ≠ ⊥ := by
  have e : Ideal.cmp .olt (max (x i) (-x i)) (Ideal.ofBits .f32 0x7F800000#32) = 1#1 := congrFun h i
  rw [bits_inf] at e
  have l : max (x i) (-x i) < ⊤ := by
    by_contra hn
    rw [show Ideal.cmp .olt (max (x i) (-x i)) ⊤ = BitVec.ofBool (decide (max (x i) (-x i) < ⊤)) from rfl, decide_eq_false hn] at e
    exact absurd e (by decide)
  rw [max_lt_iff] at l
  exact ⟨l.1.ne, fun hb => l.2.ne (by rw [hb]; rfl)⟩

end Cert.Pre_finite_x

end
-- ==== Proof.lean ====
/-
  The proof of `Cert.Claim`: the kernel and the reference run, leave their arguments unchanged and end with every
  semaphore at zero, and over extended reals their results are equal when the image is finite.
  The kernel's result is `Proof/KernelArray.lean`'s, the reference's `Proof/Reference.lean`'s; `Proof/Equation.lean`
  says the two formulas agree.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KernelArray
public import proofs.«01_k».proof.Proof.Reference
public import proofs.«01_k».proof.Proof.Equation
public import proofs.«01_k».proof.Proof.Finite
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference runs, leaves its arguments unchanged, and has no semaphore to leave raised. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.GroupNorm.run m ρ)

/-- The reference's result is the kernel's, as functions of the arguments, when the image is finite. -/
theorem results_eq (m : (ℓ : Loc Cert.KernelIdeal.nD Cert.KernelIdeal.τ Cert.KernelIdeal.sig) → Buf (Elt Ideal) ℓ)
    (hm : Cert.Pre_KernelIdeal_finite_x m) (c : Dev Cert.KernelIdeal.nD) :
    Cert.ReferenceIdeal.Read.val_main_v85 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
      = Cert.KernelIdeal.GroupNorm.result m c := by
  funext i
  rw [eq_ix4 i]
  refine (Cert.ReferenceIdeal.GroupNorm.result_apply _ _ _ (i 0) (i 1) (i 2) (i 3)).trans ?_
  exact (Cert.GroupNorm.pixelAt_eq _ (fun n k y x => Cert.Pre_finite_x.finite (hm c) (ix4 n k y x)) _ _ _ _ _ _ _).symm

/-- Over extended reals, kernel and reference end with equal results when the image is finite. -/
theorem algebraic : Cert.algebraic_KernelIdeal_ReferenceIdeal_pre_finite_x := by
  intro m ρ m' ρ' hm hagree
  refine ⟨_, Cert.KernelIdeal.GroupNorm.run m ρ, ?_⟩
  refine (θ_run Cert.ReferenceIdeal.defs _ _).mono (fun _ h c => ⟨(h c).1.trans ?_, (h c).2⟩)
    (Cert.ReferenceIdeal.GroupNorm.run m' ρ')
  rw [(hagree c).1, (hagree c).2.1, (hagree c).2.2]
  exact results_eq m hm c

/-- Everything claimed. -/
theorem claim : Cert.Claim :=
  ⟨Cert.Kernel.Gen.facts, Cert.KernelIdeal.Gen.facts, Cert.ReferenceIdeal.Gen.facts, Cert.Pre_finite_x.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial, trivial, algebraic⟩

end Cert.Proof

end
